-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x5120 : Shape := ⟨3, ![1, 384, 5120]⟩
abbrev S1x384x1 : Shape := ⟨3, ![1, 384, 1]⟩
abbrev S5120x5120 : Shape := ⟨2, ![5120, 5120]⟩
abbrev S1x5120 : Shape := ⟨2, ![1, 5120]⟩
abbrev S384x5120 : Shape := ⟨2, ![384, 5120]⟩
abbrev S384x1 : Shape := ⟨2, ![384, 1]⟩
abbrev S5120x512 : Shape := ⟨2, ![5120, 512]⟩
abbrev S1x512 : Shape := ⟨2, ![1, 512]⟩
abbrev S384x512 : Shape := ⟨2, ![384, 512]⟩

abbrev nBuf : Space → Nat
  | .hbm => 10
  | .vmem => 10
  | .smem => 0
  | _ => 0

abbrev bufTy : (tb : Table) → Fin (tcTables nBuf tb) → BufTy
  | .hbm, ⟨0, _⟩ => ⟨S1x384x5120, .fp8e4m3⟩
  | .hbm, ⟨1, _⟩ => ⟨S1x384x1, .f32⟩
  | .hbm, ⟨2, _⟩ => ⟨S5120x5120, .fp8e4m3⟩
  | .hbm, ⟨3, _⟩ => ⟨S1x5120, .f32⟩
  | .hbm, ⟨4, _⟩ => ⟨S1x384x5120, .bf16⟩
  | .hbm, ⟨5, _⟩ => ⟨S384x5120, .fp8e4m3⟩
  | .hbm, ⟨6, _⟩ => ⟨S384x1, .f32⟩
  | .hbm, ⟨7, _⟩ => ⟨S384x5120, .bf16⟩
  | .hbm, ⟨8, _⟩ => ⟨S384x5120, .bf16⟩
  | .hbm, ⟨9, _⟩ => ⟨S1x384x5120, .bf16⟩
  | .local _ .vmem, ⟨0, _⟩ => ⟨S384x5120, .fp8e4m3⟩
  | .local _ .vmem, ⟨1, _⟩ => ⟨S384x1, .f32⟩
  | .local _ .vmem, ⟨2, _⟩ => ⟨S5120x512, .fp8e4m3⟩
  | .local _ .vmem, ⟨3, _⟩ => ⟨S5120x512, .fp8e4m3⟩
  | .local _ .vmem, ⟨4, _⟩ => ⟨S1x512, .f32⟩
  | .local _ .vmem, ⟨5, _⟩ => ⟨S1x512, .f32⟩
  | .local _ .vmem, ⟨6, _⟩ => ⟨S384x512, .bf16⟩
  | .local _ .vmem, ⟨7, _⟩ => ⟨S384x512, .bf16⟩
  | .local _ .vmem, ⟨8, _⟩ => ⟨S384x512, .bf16⟩
  | .local _ .vmem, ⟨9, _⟩ => ⟨S384x512, .bf16⟩
  | _, _ => ⟨S1x384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x384x5120 : Shape := ⟨3, ![1, 384, 5120]⟩
abbrev S1x384x1 : Shape := ⟨3, ![1, 384, 1]⟩
abbrev S5120x5120 : Shape := ⟨2, ![5120, 5120]⟩
abbrev S1x5120 : Shape := ⟨2, ![1, 5120]⟩
abbrev S1x1x5120 : Shape := ⟨3, ![1, 1, 5120]⟩

abbrev nBuf : Space → Nat
  | .hbm => 6
  | .vmem => 6
  | .smem => 0
  | _ => 0

abbrev bufTy : (tb : Table) → Fin (tcTables nBuf tb) → BufTy
  | .hbm, ⟨0, _⟩ => ⟨S1x384x5120, .fp8e4m3⟩
  | .hbm, ⟨1, _⟩ => ⟨S1x384x1, .f32⟩
  | .hbm, ⟨2, _⟩ => ⟨S5120x5120, .fp8e4m3⟩
  | .hbm, ⟨3, _⟩ => ⟨S1x5120, .f32⟩
  | .hbm, ⟨4, _⟩ => ⟨S1x384x5120, .bf16⟩
  | .hbm, ⟨5, _⟩ => ⟨S1x384x5120, .bf16⟩
  | .local _ .vmem, ⟨0, _⟩ => ⟨S1x384x5120, .fp8e4m3⟩
  | .local _ .vmem, ⟨1, _⟩ => ⟨S1x384x1, .f32⟩
  | .local _ .vmem, ⟨2, _⟩ => ⟨S5120x5120, .fp8e4m3⟩
  | .local _ .vmem, ⟨3, _⟩ => ⟨S1x5120, .f32⟩
  | .local _ .vmem, ⟨4, _⟩ => ⟨S1x384x5120, .bf16⟩
  | .local _ .vmem, ⟨5, _⟩ => ⟨S1x384x5120, .bf16⟩
  | _, _ => ⟨S1x384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Linear.lean ====
/-
  THE MATHEMATICS of the fp8 linear layer with a residual, over the extended reals: `linear` is the layer on the
  (1, 384, 5120) arrays that the reference takes, `rowLinear` the same layer on the (384, 5120) arrays that the kernel's
  grid walks. No program is mentioned here.
-/
module

public import Idealize.ShloMosaic.Lib.Pointwise
public import Idealize.ShloMosaic.PureOps.Ideal

@[expose] public section

noncomputable section

namespace Cert.Linear

open Idealize.ShloMosaic
open scoped BigOperators

/-- The layer on the arrays with a batch axis: element `(b, t, n)` is the product of row `t` of `x` with column `n` of
    `w`, times the token's scale, times the column's scale, plus the residual. -/
def linear (x : (⟨3, ![1, 384, 5120]⟩ : Shape).Idx → EReal) (xs : (⟨3, ![1, 384, 1]⟩ : Shape).Idx → EReal)
    (w : (⟨2, ![5120, 5120]⟩ : Shape).Idx → EReal) (ws : (⟨2, ![1, 5120]⟩ : Shape).Idx → EReal)
    (r : (⟨3, ![1, 384, 5120]⟩ : Shape).Idx → EReal) : (⟨3, ![1, 384, 5120]⟩ : Shape).Idx → EReal :=
  fun i => (∑ k : Fin 5120, x (ix3 0 (i 1) k) * w (ix2 k (i 2))) * xs (ix3 0 (i 1) 0) * ws (ix2 0 (i 2)) + r i

/-- The layer on the arrays without the batch axis. -/
def rowLinear (x : (⟨2, ![384, 5120]⟩ : Shape).Idx → EReal) (xs : (⟨2, ![384, 1]⟩ : Shape).Idx → EReal)
    (w : (⟨2, ![5120, 5120]⟩ : Shape).Idx → EReal) (ws : (⟨2, ![1, 5120]⟩ : Shape).Idx → EReal)
    (r : (⟨2, ![384, 5120]⟩ : Shape).Idx → EReal) : (⟨2, ![384, 5120]⟩ : Shape).Idx → EReal :=
  fun i => (∑ k : Fin 5120, x (ix2 (i 0) k) * w (ix2 k (i 1))) * xs (ix2 (i 0) 0) * ws (ix2 0 (i 1)) + r i

/-- Dropping the batch axis of the operands, applying `rowLinear` and putting the axis back is `linear`. -/
theorem shapeCast_rowLinear (x : (⟨3, ![1, 384, 5120]⟩ : Shape).Idx → EReal) (xs : (⟨3, ![1, 384, 1]⟩ : Shape).Idx → EReal)
    (w : (⟨2, ![5120, 5120]⟩ : Shape).Idx → EReal) (ws : (⟨2, ![1, 5120]⟩ : Shape).Idx → EReal)
    (r : (⟨3, ![1, 384, 5120]⟩ : Shape).Idx → EReal)
    (hx : (⟨3, ![1, 384, 5120]⟩ : Shape).ShapeCasts ⟨2, ![384, 5120]⟩)
    (hxs : (⟨3, ![1, 384, 1]⟩ : Shape).ShapeCasts ⟨2, ![384, 1]⟩)
    (hr : (⟨3, ![1, 384, 5120]⟩ : Shape).ShapeCasts ⟨2, ![384, 5120]⟩)
    (hy : (⟨2, ![384, 5120]⟩ : Shape).ShapeCasts ⟨3, ![1, 384, 5120]⟩) :
    shapeCast ⟨3, ![1, 384, 5120]⟩ (rowLinear (shapeCast ⟨2, ![384, 5120]⟩ x hx) (shapeCast ⟨2, ![384, 1]⟩ xs hxs) w ws
      (shapeCast ⟨2, ![384, 5120]⟩ r hr)) hy = linear x xs w ws r := by
  funext i
  idx_vars i
  obtain rfl : i0 = 0 := Subsingleton.elim _ _
  pointwise [rowLinear, linear]

end Cert.Linear

end
-- ==== Proof.KernelBlock.lean ====
/-
  WHAT ONE BLOCK COMPUTES: the kernel's one store, read at an index of its (384, 512) block over the extended reals.
-/
module

public import proofs.«01_k».proof.Proof.Gen.KernelIdeal.Frame
public import proofs.«01_k».proof.Proof.Linear

@[expose] public section

noncomputable section

namespace Cert.KernelIdeal.Block

open Cert.KernelIdeal Cert.KernelIdeal.Gen Idealize.ShloMosaic
open scoped BigOperators

/-- The stored block at row `a`, column `b`: the product of row `a` of the activations with column `b` of the weight
    block, times the row's scale, times the column's scale, plus the residual. -/
theorem pay_apply (x : Vec Ideal S384x5120 .fp8e4m3) (w : Vec Ideal S5120x512 .fp8e4m3) (xs : Vec Ideal S384x1 .f32)
    (ws : Vec Ideal S1x512 .f32) (r : Vec Ideal S384x512 .bf16) (a : Fin 384) (b : Fin 512) :
    k0_pay1 (F := Ideal) x w xs ws r (ix2 a b)
      = (∑ k : Fin 5120, x (ix2 a k) * w (ix2 k b)) * xs (ix2 a 0) * ws (ix2 0 b) + r (ix2 a b) := by
  pointwise [k0_pay1]

end Cert.KernelIdeal.Block

end
-- ==== Proof.KernelValue.lean ====
/-
  WHAT THE KERNEL'S RESULT HOLDS after its run, over the extended reals: every grid point writes back its block of 512
  columns of `Linear.rowLinear` of the arrays as the grid finds them, the ten blocks tile the result, and the reshapes
  before and after the grid turn that into `Linear.linear` of the arguments.
-/
module

public import proofs.«01_k».proof.Proof.KernelBlock
public import Idealize.ShloMosaic.Lib.Pipeline.Value
public import Idealize.ShloMosaic.Lib.Claim

@[expose] public section

noncomputable section

namespace Cert.KernelIdeal.KernelValue

open Cert.KernelIdeal Cert.KernelIdeal.Gen Cert.Linear Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The layer of the arrays as the grid finds them on device `c`: what the grid's result array is shown to hold. -/
abbrev rows (c : Dev nD) : S384x5120.Idx → EReal :=
  rowLinear (V m c main_v0) (V m c main_v1) (V m c main_arg2) (V m c main_arg3) (V m c main_v2)

theorem hz : (![0, 0] : Fin 2 → Nat) = fun _ => 0 := funext fun a => by fin_cases a <;> rfl

/-! ## The windows' blocks: where an index of a block lies in its array -/

/-- The activations and their scales are staged whole; the other windows' block at point `t` is block column `t`. -/
theorem index_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-- Column `b` of block column `t`, as a column of the whole array. -/
def col (t : Fin cfg0.N) (b : Fin 512) : Fin 5120 :=
  ⟨t.val * 512 + b.val, by have h : t.val < 10 := N_0 ▸ t.isLt; omega⟩

theorem emb0 (t : Fin cfg0.N) (a : Fin 384) (k : Fin 5120) : ((cfg0.win 0).blk t).view.emb (ix2 a k) = ix2 a k := by
  obtain ⟨⟨e0, e1⟩, -⟩ := index_facts t
  funext d; apply Fin.ext
  match d with
  | ⟨0, _⟩ => show win0_0.index t (0 : Fin 2) * 384 + 1 * a.val = a.val; omega
  | ⟨1, _⟩ => show win0_0.index t (1 : Fin 2) * 5120 + 1 * k.val = k.val; omega

theorem emb1 (t : Fin cfg0.N) (a : Fin 384) : ((cfg0.win 1).blk t).view.emb (ix2 a (0 : Fin 1)) = ix2 a (0 : Fin 1) := by
  obtain ⟨-, ⟨e0, e1⟩, -⟩ := index_facts t
  funext d; apply Fin.ext
  match d with
  | ⟨0, _⟩ => show win0_1.index t (0 : Fin 2) * 384 + 1 * a.val = a.val; omega
  | ⟨1, _⟩ => show win0_1.index t (1 : Fin 2) * 1 + 1 * 0 = 0; omega

theorem emb2 (t : Fin cfg0.N) (k : Fin 5120) (b : Fin 512) :
    ((cfg0.win 2).blk t).view.emb (ix2 k b) = ix2 k (col t b) := by
  obtain ⟨-, -, ⟨e0, e1⟩, -⟩ := index_facts t
  funext d; apply Fin.ext
  match d with
  | ⟨0, _⟩ => show win0_2.index t (0 : Fin 2) * 5120 + 1 * k.val = k.val; omega
  | ⟨1, _⟩ => show win0_2.index t (1 : Fin 2) * 512 + 1 * b.val = t.val * 512 + b.val; rw [e1]; omega

theorem emb3 (t : Fin cfg0.N) (b : Fin 512) :
    ((cfg0.win 3).blk t).view.emb (ix2 (0 : Fin 1) b) = ix2 (0 : Fin 1) (col t b) := by
  obtain ⟨-, -, -, ⟨e0, e1⟩, -⟩ := index_facts t
  funext d; apply Fin.ext
  match d with
  | ⟨0, _⟩ => show win0_3.index t (0 : Fin 2) * 1 + 1 * 0 = 0; omega
  | ⟨1, _⟩ => show win0_3.index t (1 : Fin 2) * 512 + 1 * b.val = t.val * 512 + b.val; rw [e1]; omega

theorem emb4 (t : Fin cfg0.N) (a : Fin 384) (b : Fin 512) :
    ((cfg0.win 4).blk t).view.emb (ix2 a b) = ix2 a (col t b) := by
  obtain ⟨-, -, -, -, ⟨e0, e1⟩, -⟩ := index_facts t
  funext d; apply Fin.ext
  match d with
  | ⟨0, _⟩ => show win0_4.index t (0 : Fin 2) * 384 + 1 * a.val = a.val; omega
  | ⟨1, _⟩ => show win0_4.index t (1 : Fin 2) * 512 + 1 * b.val = t.val * 512 + b.val; rw [e1]; omega

theorem emb5 (t : Fin cfg0.N) (a : Fin 384) (b : Fin 512) :
    ((cfg0.win 5).blk t).view.emb (ix2 a b) = ix2 a (col t b) := by
  obtain ⟨-, -, -, -, -, e0, e1⟩ := index_facts t
  funext d; apply Fin.ext
  match d with
  | ⟨0, _⟩ => show win0_5.index t (0 : Fin 2) * 384 + 1 * a.val = a.val; omega
  | ⟨1, _⟩ => show win0_5.index t (1 : Fin 2) * 512 + 1 * b.val = t.val * 512 + b.val; rw [e1]; omega

/-! ## The staged blocks, read at an index -/

theorem iblk0_apply (c : Dev nD) (t : Fin cfg0.N) (a : Fin 384) (k : Fin 5120) :
    iblk m c 0 t (ix2 a k) = V m c main_v0 (ix2 a k) := congrArg (V m c main_v0) (emb0 t a k)

theorem iblk1_apply (c : Dev nD) (t : Fin cfg0.N) (a : Fin 384) :
    iblk m c 1 t (ix2 a (0 : Fin 1)) = V m c main_v1 (ix2 a (0 : Fin 1)) := congrArg (V m c main_v1) (emb1 t a)

theorem iblk2_apply (c : Dev nD) (t : Fin cfg0.N) (k : Fin 5120) (b : Fin 512) :
    iblk m c 2 t (ix2 k b) = V m c main_arg2 (ix2 k (col t b)) := congrArg (V m c main_arg2) (emb2 t k b)

theorem iblk3_apply (c : Dev nD) (t : Fin cfg0.N) (b : Fin 512) :
    iblk m c 3 t (ix2 (0 : Fin 1) b) = V m c main_arg3 (ix2 (0 : Fin 1) (col t b)) := congrArg (V m c main_arg3) (emb3 t b)

theorem iblk4_apply (c : Dev nD) (t : Fin cfg0.N) (a : Fin 384) (b : Fin 512) :
    iblk m c 4 t (ix2 a b) = V m c main_v2 (ix2 a (col t b)) := congrArg (V m c main_v2) (emb4 t a b)

/-- The stored block of point `t`, at row `a` and column `b`, is the whole array's layer at row `a` and the block's
    column `b`. -/
theorem pay_eq (c : Dev nD) (t : Fin cfg0.N) (a : Fin 384) (b : Fin 512) :
    k0_pay1 (F := Ideal) (iblk m c 0 t) (iblk m c 2 t) (iblk m c 1 t) (iblk m c 3 t) (iblk m c 4 t) (ix2 a b)
      = rows m c (ix2 a (col t b)) := by
  refine (Block.pay_apply _ _ _ _ _ a b).trans ?_
  rw [iblk1_apply, iblk3_apply, iblk4_apply]
  simp only [iblk0_apply, iblk2_apply]
  rfl

/-- What point `t` writes back is its block of the layer of the whole arrays. -/
theorem flushed_eq (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5]
  unfold out0_5
  rw [View.canon_unit_zero hz, View.ld_unit_zero (S := S384x5120) hz, View.ld_unit_zero (S := S5120x512) hz,
    View.ld_unit_zero (S := S384x1) hz, View.ld_unit_zero (S := S1x512) hz, View.ld_unit_zero (S := S384x512) hz]
  refine funext fun (j : S384x512.Idx) => ?_
  idx_vars j
  show k0_pay1 (F := Ideal) (iblk m c 0 t) (iblk m c 2 t) (iblk m c 1 t) (iblk m c 3 t) (iblk m c 4 t) (ix2 j0 j1)
    = rows m c (((cfg0.win 5).blk t).view.emb (ix2 j0 j1))
  rw [emb5]
  exact pay_eq m c t j0 j1

/-! ## The ten blocks tile the result -/

/-- Every index of the result is in the block of the point its column belongs to. -/
theorem cover (i : S384x5120.Idx) : ∃ t : Fin cfg0.N, (cfg0.win 5).flush t = true ∧ i ∈ ((cfg0.win 5).blk t).view.set := by
  have h0 : (i 0 : Nat) < 384 := (i 0).isLt
  have h1 : (i 1 : Nat) < 5120 := (i 1).isLt
  let t : Fin cfg0.N := ⟨(i 1 : Nat) / 512, by show _ < grid0.N; rw [N_0]; omega⟩
  refine ⟨t, flush0_5 t, ?_⟩
  obtain ⟨-, -, -, -, -, e0, e1⟩ := index_facts t
  have ht : t.val = (i 1 : Nat) / 512 := rfl
  show i ∈ ((View.whole main_v3).slice (win0_5.rect t)).set
  rw [View.set_slice_whole, Rect.mem_set_unit]
  intro a
  match a with
  | ⟨0, _⟩ =>
    show win0_5.index t (0 : Fin 2) * 384 ≤ (i 0 : Nat) ∧ (i 0 : Nat) < win0_5.index t (0 : Fin 2) * 384 + 384
    omega
  | ⟨1, _⟩ =>
    show win0_5.index t (1 : Fin 2) * 512 ≤ (i 1 : Nat) ∧ (i 1 : Nat) < win0_5.index t (1 : Fin 2) * 512 + 512
    rw [e1, ht]; omega

/-- After the grid's last point the result array holds the layer of the arrays as the grid found them. -/
theorem final (c : Dev nD) : (dats m 0 c).arrAt 5 cfg0.N = rows m c :=
  (dats m 0 c).arrAt_eq_of_cover 5 (rows m c) (fun t _ => flushed_eq m c t) cover

/-! ## The reshapes around the grid -/

/-- The layer of device `c`'s arguments: what the kernel's result is shown to hold. -/
abbrev layer (c : Dev nD) : Buf (Elt Ideal) ((c : Thread nD τ).loc main_v4) :=
  linear (m ((c : Thread nD τ).loc main_arg0)) (m ((c : Thread nD τ).loc main_arg1)) (m ((c : Thread nD τ).loc main_arg2))
    (m ((c : Thread nD τ).loc main_arg3)) (m ((c : Thread nD τ).loc main_arg4))

theorem entry0 (c : Dev nD) : V m c main_v0
    = shapeCast S384x5120 (m ((c : Thread nD τ).loc main_arg0)) shapeCasts_S1x384x5120_S384x5120 := by
  show StableHlo.after hostOps0 (fun b => m (c, b)) (Proc.devRef .tc main_v0) = _
  after_results
  rfl

theorem entry1 (c : Dev nD) : V m c main_v1
    = shapeCast S384x1 (m ((c : Thread nD τ).loc main_arg1)) shapeCasts_S1x384x1_S384x1 := by
  show StableHlo.after hostOps0 (fun b => m (c, b)) (Proc.devRef .tc main_v1) = _
  after_results
  rfl

theorem entry4 (c : Dev nD) : V m c main_v2
    = shapeCast S384x5120 (m ((c : Thread nD τ).loc main_arg4)) shapeCasts_S1x384x5120_S384x5120 := by
  show StableHlo.after hostOps0 (fun b => m (c, b)) (Proc.devRef .tc main_v2) = _
  after_results
  rfl

/-- The batch axis put back on the grid's result is the layer of the arguments. -/
theorem rows_layer (c : Dev nD) :
    shapeCast S1x384x5120 (rows m c) shapeCasts_S384x5120_S1x384x5120 = layer m c := by
  unfold rows
  rw [entry0, entry1, entry4, V_main_arg2, V_main_arg3]
  exact shapeCast_rowLinear _ _ _ _ _ _ _ _ _

/-- The operation after the grid leaves the layer of the arguments in the kernel's result. -/
theorem tail (c : Dev nD) :
    Pipeline.afterTail₀ cfgs (dats m) 0 (V0 m) [hostOps1] c main_v4 = layer m c := by
  refine Eq.trans ?_ (rows_layer m c)
  unfold Pipeline.afterTail₀
  show StableHlo.after hostOps1 _ (Proc.devRef .tc main_v4) = _
  after_results
  exact congrArg (fun v => shapeCast S1x384x5120 v shapeCasts_S384x5120_S1x384x5120)
    ((Pipeline.withArrays_arr _ winFacts0.arr_inj c (V0 m c) _ 5).trans (final m c))

/-- The kernel's run: the result holds the layer of the arguments, the arguments are unchanged. -/
theorem run : θ_run defs (onTc (τ := τ) (main (F := Ideal))) ⟨m, fun _ => 0, ρ⟩ fun r => ∀ c : Dev nD,
      r.2.mem ((c : Thread nD τ).loc main_v4) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  WHAT THE REFERENCE COMPUTES: its one store holds the layer `Linear.linear` of its five arguments.
-/
module

public import proofs.«01_k».proof.Proof.Gen.ReferenceIdeal.Value
public import proofs.«01_k».proof.Proof.Linear

@[expose] public section

noncomputable section

namespace Cert.ReferenceIdeal.RefValue

open Cert.ReferenceIdeal Cert.ReferenceIdeal.Gen Cert.Linear Idealize.ShloMosaic

/-- The reference's result, as a function of its arguments over the extended reals, is `linear`. -/
theorem value_eq (x : Vec Ideal S1x384x5120 .fp8e4m3) (xs : Vec Ideal S1x384x1 .f32) (w : Vec Ideal S5120x5120 .fp8e4m3)
    (ws : Vec Ideal S1x5120 .f32) (r : Vec Ideal S1x384x5120 .bf16) :
    Value.G5 (F := Ideal) x xs w ws r = linear x xs w ws r := by
  funext i
  idx_vars i
  obtain rfl : i0 = 0 := Subsingleton.elim _ _
  pointwise [Value.G5, k0_pay1, linear]

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- From memories that agree on the arguments, the reference's result is the layer of the kernel's arguments. -/
theorem reference_layer (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3))
    (h4 : m' ((c.tc : Thread ReferenceIdeal.nD ReferenceIdeal.τ).loc ReferenceIdeal.main_arg4)
      = m ((c.tc : Thread KernelIdeal.nD KernelIdeal.τ).loc KernelIdeal.main_arg4)) :
    ReferenceIdeal.Value.G5 (F := Ideal)
        (m' ((c.tc : Thread ReferenceIdeal.nD ReferenceIdeal.τ).loc ReferenceIdeal.main_arg0))
        (m' ((c.tc : Thread ReferenceIdeal.nD ReferenceIdeal.τ).loc ReferenceIdeal.main_arg1))
        (m' ((c.tc : Thread ReferenceIdeal.nD ReferenceIdeal.τ).loc ReferenceIdeal.main_arg2))
        (m' ((c.tc : Thread ReferenceIdeal.nD ReferenceIdeal.τ).loc ReferenceIdeal.main_arg3))
        (m' ((c.tc : Thread ReferenceIdeal.nD ReferenceIdeal.τ).loc ReferenceIdeal.main_arg4))
      = KernelIdeal.KernelValue.layer m c := by
  rw [h0, h1, h2, h3, h4]
  exact ReferenceIdeal.RefValue.value_eq _ _ _ _ _

/-- Over the extended reals the kernel and the reference, from equal arguments, both run and end with the same result:
    the layer of the arguments. -/
theorem algebraic : Cert.algebraic_KernelIdeal_ReferenceIdeal (hKernelIdeal := KernelIdeal.Gen.facts)
    (hReferenceIdeal := ReferenceIdeal.Gen.facts) := fun m g m' g' _ hagree =>
  ⟨fun c => KernelIdeal.KernelValue.layer m c, KernelIdeal.KernelValue.run m g,
    (θ_run ReferenceIdeal.defs _ _).mono
      (fun _ h c => ⟨(h c).1.trans (reference_layer m m' c (hagree c).1 (hagree c).2.1 (hagree c).2.2.1
        (hagree c).2.2.2.1 (hagree c).2.2.2.2), (h c).2⟩)
      (ReferenceIdeal.Value.run m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
